-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x38800200#32 ((16383⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x96x128x128 : Shape := ⟨4, ![8, 96, 128, 128]⟩
abbrev S8 : Shape := ⟨1, ![8]⟩
abbrev S2x2x2x96x96 : Shape := ⟨5, ![2, 2, 2, 96, 96]⟩
abbrev S1x96x128x128 : Shape := ⟨4, ![1, 96, 128, 128]⟩
abbrev S1x2x2x96x96 : Shape := ⟨5, ![1, 2, 2, 96, 96]⟩
abbrev S1 : Shape := ⟨1, ![1]⟩
abbrev S96x128x128 : Shape := ⟨3, ![96, 128, 128]⟩
abbrev S96x16384 : Shape := ⟨2, ![96, 16384]⟩
abbrev S96x96 : Shape := ⟨2, ![96, 96]⟩
abbrev S1x1x1x96x96 : Shape := ⟨5, ![1, 1, 1, 96, 96]⟩
abbrev S2x2x96x96 : Shape := ⟨4, ![2, 2, 96, 96]⟩

abbrev nBuf : Space → Nat
  | .hbm => 9
  | .vmem => 6
  | .smem => 1
  | _ => 0

abbrev bufTy : (tb : Table) → Fin (tcTables nBuf tb) → BufTy
  | .hbm, ⟨0, _⟩ => ⟨S8x96x128x128, .f32⟩
  | .hbm, ⟨1, _⟩ => ⟨S8x96x128x128, .f32⟩
  | .hbm, ⟨2, _⟩ => ⟨S8, .i32⟩
  | .hbm, ⟨3, _⟩ => ⟨S2x2x2x96x96, .f32⟩
  | .hbm, ⟨4, _⟩ => ⟨S1x2x2x96x96, .f32⟩
  | .hbm, ⟨5, _⟩ => ⟨S2x2x96x96, .f32⟩
  | .hbm, ⟨6, _⟩ => ⟨S1x2x2x96x96, .f32⟩
  | .hbm, ⟨7, _⟩ => ⟨S2x2x96x96, .f32⟩
  | .hbm, ⟨8, _⟩ => ⟨S2x2x96x96, .f32⟩
  | .local _ .vmem, ⟨0, _⟩ => ⟨S1x96x128x128, .f32⟩
  | .local _ .vmem, ⟨1, _⟩ => ⟨S1x96x128x128, .f32⟩
  | .local _ .vmem, ⟨2, _⟩ => ⟨S1x96x128x128, .f32⟩
  | .local _ .vmem, ⟨3, _⟩ => ⟨S1x96x128x128, .f32⟩
  | .local _ .vmem, ⟨4, _⟩ => ⟨S1x2x2x96x96, .f32⟩
  | .local _ .vmem, ⟨5, _⟩ => ⟨S1x2x2x96x96, .f32⟩
  | .local _ .smem, ⟨0, _⟩ => ⟨S8, .i32⟩
  | _, _ => ⟨S8x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def k0_off1 (i : grid0.Coords) : Fin 1 → Nat :=
  let arg0 : BitVec 32 := BitVec.ofNat 32 (i 0).val
  let c4_i32 : BitVec 32 := 4#32
  let v18 : BitVec 32 := Scalar.muli arg0 c4_i32
  let arg1 : BitVec 32 := BitVec.ofNat 32 (i 1).val
  let v19 : BitVec 32 := Scalar.addi v18 arg1
  let v20 : Index := Scalar.indexCast v19
  ![v20.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x96x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2x96x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== KernelIdeal.lean ====
variable {F : FTy → Type} [FloatOps F] [Named F]
def κ : String → Option EReal := fun
  | "scale" => some ((16383⁻¹ : ℝ) : EReal)
  | _ => none
-- ==== ReferenceIdeal.lean ====
abbrev S8x96x128x128 : Shape := ⟨4, ![8, 96, 128, 128]⟩
abbrev S8 : Shape := ⟨1, ![8]⟩
abbrev S96x96 : Shape := ⟨2, ![96, 96]⟩
abbrev S_ : Shape := ⟨0, ![]⟩
abbrev S8x96x16384 : Shape := ⟨3, ![8, 96, 16384]⟩
abbrev S8x1x96x16384 : Shape := ⟨4, ![8, 1, 96, 16384]⟩
abbrev S8x2x96x16384 : Shape := ⟨4, ![8, 2, 96, 16384]⟩
abbrev S8x2x96x96 : Shape := ⟨4, ![8, 2, 96, 96]⟩
abbrev S1x1x96x96 : Shape := ⟨4, ![1, 1, 96, 96]⟩
abbrev S2x96x96 : Shape := ⟨3, ![2, 96, 96]⟩
abbrev S1x2x96x96 : Shape := ⟨4, ![1, 2, 96, 96]⟩
abbrev S2x2x96x96 : Shape := ⟨4, ![2, 2, 96, 96]⟩

abbrev nBuf : Space → Nat
  | .hbm => 52
  | .vmem => 0
  | .smem => 0
  | _ => 0

abbrev bufTy : (tb : Table) → Fin (tcTables nBuf tb) → BufTy
  | .hbm, ⟨0, _⟩ => ⟨S8x96x128x128, .f32⟩
  | .hbm, ⟨1, _⟩ => ⟨S8x96x128x128, .f32⟩
  | .hbm, ⟨2, _⟩ => ⟨S8, .i32⟩
  | .hbm, ⟨3, _⟩ => ⟨S96x96, .i32⟩
  | .hbm, ⟨4, _⟩ => ⟨S96x96, .i32⟩
  | .hbm, ⟨5, _⟩ => ⟨S_, .i32⟩
  | .hbm, ⟨6, _⟩ => ⟨S96x96, .i32⟩
  | .hbm, ⟨7, _⟩ => ⟨S96x96, .i32⟩
  | .hbm, ⟨8, _⟩ => ⟨S96x96, .i1⟩
  | .hbm, ⟨9, _⟩ => ⟨S96x96, .f32⟩
  | .hbm, ⟨10, _⟩ => ⟨S_, .f32⟩
  | .hbm, ⟨11, _⟩ => ⟨S96x96, .f32⟩
  | .hbm, ⟨12, _⟩ => ⟨S96x96, .i32⟩
  | .hbm, ⟨13, _⟩ => ⟨S_, .i32⟩
  | .hbm, ⟨14, _⟩ => ⟨S96x96, .i32⟩
  | .hbm, ⟨15, _⟩ => ⟨S96x96, .i32⟩
  | .hbm, ⟨16, _⟩ => ⟨S96x96, .i32⟩
  | .hbm, ⟨17, _⟩ => ⟨S96x96, .i1⟩
  | .hbm, ⟨18, _⟩ => ⟨S_, .f32⟩
  | .hbm, ⟨19, _⟩ => ⟨S96x96, .f32⟩
  | .hbm, ⟨20, _⟩ => ⟨S96x96, .f32⟩
  | .hbm, ⟨21, _⟩ => ⟨S8x96x16384, .f32⟩
  | .hbm, ⟨22, _⟩ => ⟨S8x96x16384, .f32⟩
  | .hbm, ⟨23, _⟩ => ⟨S8x1x96x16384, .f32⟩
  | .hbm, ⟨24, _⟩ => ⟨S8x1x96x16384, .f32⟩
  | .hbm, ⟨25, _⟩ => ⟨S8x2x96x16384, .f32⟩
  | .hbm, ⟨26, _⟩ => ⟨S8x2x96x96, .f32⟩
  | .hbm, ⟨27, _⟩ => ⟨S_, .f32⟩
  | .hbm, ⟨28, _⟩ => ⟨S8x2x96x96, .f32⟩
  | .hbm, ⟨29, _⟩ => ⟨S8x2x96x96, .f32⟩
  | .hbm, ⟨30, _⟩ => ⟨S_, .f32⟩
  | .hbm, ⟨31, _⟩ => ⟨S96x96, .f32⟩
  | .hbm, ⟨32, _⟩ => ⟨S96x96, .f32⟩
  | .hbm, ⟨33, _⟩ => ⟨S1x1x96x96, .f32⟩
  | .hbm, ⟨34, _⟩ => ⟨S8x2x96x96, .f32⟩
  | .hbm, ⟨35, _⟩ => ⟨S8x2x96x96, .f32⟩
  | .hbm, ⟨36, _⟩ => ⟨S1x1x96x96, .f32⟩
  | .hbm, ⟨37, _⟩ => ⟨S8x2x96x96, .f32⟩
  | .hbm, ⟨38, _⟩ => ⟨S8x2x96x96, .f32⟩
  | .hbm, ⟨39, _⟩ => ⟨S_, .i32⟩
  | .hbm, ⟨40, _⟩ => ⟨S_, .i32⟩
  | .hbm, ⟨41, _⟩ => ⟨S8, .i32⟩
  | .hbm, ⟨42, _⟩ => ⟨S8, .i1⟩
  | .hbm, ⟨43, _⟩ => ⟨S8, .f32⟩
  | .hbm, ⟨44, _⟩ => ⟨S2x96x96, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S2x96x96, .f32⟩
  | .hbm, ⟨49, _⟩ => ⟨S1x2x96x96, .f32⟩
  | .hbm, ⟨50, _⟩ => ⟨S1x2x96x96, .f32⟩
  | .hbm, ⟨51, _⟩ => ⟨S2x2x96x96, .f32⟩
  | _, _ => ⟨S8x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_cst : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Proof.Algebra.lean ====
/- The scalar facts the value proof rests on: the constant 16383, the division by it, and the least of eight labels. -/
module

public import Idealize.ShloMosaic.PureOps.Ideal
public import Idealize.ShloMosaic.Lib.Pointwise

@[expose] public section

noncomputable section

namespace Cert.Cov

open Idealize.ShloMosaic

/-- The divisor the reference spells denotes the real 16383. -/
theorem ofBits_16383 : Ideal.ofBits .f32 0x467FFC00#32 = ((16383 : ℝ) : EReal) := by
  simp [Ideal.ofBits, Ideal.ieee, -EReal.coe_mul]; norm_num

/-- Dividing by it is multiplying by its inverse. -/
theorem div_16383 (x : EReal) : Ideal.div x (Ideal.ofBits .f32 0x467FFC00#32) = x * ((16383⁻¹ : ℝ) : EReal) := by
  rw [ofBits_16383, Ideal.div_coe (by norm_num), one_div]

/-- The smaller of a word and the largest signed word is the word. -/
theorem minsi_top (x : BitVec 32) : IntOp.minsi x 2147483647#32 = x := by
  have h : x.toInt < 2 ^ 31 := by have := BitVec.toInt_lt (x := x); omega
  rw [IntOp.minsi]
  split
  · rfl
  · next hn =>
    have top : (0x7FFFFFFF#32).toInt = 2 ^ 31 - 1 := by decide
    rw [BitVec.slt_iff_toInt_lt, top] at hn
    exact BitVec.eq_of_toInt_eq (by rw [top]; omega)

/-- The reference's reduction over the eight labels is the kernel's chain of seven minima. -/
theorem fold_minsi (f : Fin 8 → BitVec 32) :
    Finset.fold IntOp.minsi 2147483647#32 f Finset.univ
      = IntOp.minsi (IntOp.minsi (IntOp.minsi (IntOp.minsi (IntOp.minsi (IntOp.minsi (IntOp.minsi (f 0) (f 1)) (f 2)) (f 3)) (f 4)) (f 5)) (f 6)) (f 7) := by
  have e : (Finset.univ : Finset (Fin 8)) = {0, 1, 2, 3, 4, 5, 6, 7} := by decide
  rw [e]
  repeat rw [Finset.fold_insert (by decide)]
  rw [Finset.fold_singleton, minsi_top]
  simp only [Std.Associative.assoc (op := (IntOp.minsi : BitVec 32 → BitVec 32 → BitVec 32))]

end Cert.Cov

end
-- ==== Proof.Block.lean ====
/- The result block after one grid point: what its four stores leave, and the labels and weights they read. -/
module

public import proofs.«01_k».proof.Proof.Gen.KernelIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Cov

open Idealize.ShloMosaic Idealize.ShloMosaic.TcCoe Idealize.SL.Sem
open Cert.KernelIdeal Cert.KernelIdeal.Gen

/-- The inner product of channels `a` and `b` of one batch element, over its 128 × 128 positions in row-major order. -/
def gram (x : FVec Ideal S1x96x128x128 .f32) (a b : Fin 96) : EReal :=
  ∑ k : Fin 16384, x (ix4 0 a ⟨k.val / 128, by omega⟩ ⟨k.val % 128, by omega⟩)
    * x (ix4 0 b ⟨k.val / 128, by omega⟩ ⟨k.val % 128, by omega⟩)

/-- A result block with the weighted inner products of one batch element added: weight `wl` in the first half,
    `wh` in the second, the first input's products before the second's. -/
def added (wl wh : EReal) (x1 x2 : FVec Ideal S1x96x128x128 .f32) (o : FVec Ideal S1x2x2x96x96 .f32) :
    FVec Ideal S1x2x2x96x96 .f32 := fun y =>
  o y + (if (y 1).val = 0 then wl else wh) * (if (y 2).val = 0 then gram x1 (y 3) (y 4) else gram x2 (y 3) (y 4))

/-- The slab of the result block at the first half, first input. -/
abbrev slab00 : Rect S1x2x2x96x96 := Rect.unit ![0, 0, 0, 0, 0] ![1, 1, 1, 96, 96] inb_S1x2x2x96x96_S1x1x1x96x96_0_0_0_0_0
/-- The slab of the result block at the first half, second input. -/
abbrev slab01 : Rect S1x2x2x96x96 := Rect.unit ![0, 0, 1, 0, 0] ![1, 1, 1, 96, 96] inb_S1x2x2x96x96_S1x1x1x96x96_0_0_1_0_0
/-- The slab of the result block at the second half, first input. -/
abbrev slab10 : Rect S1x2x2x96x96 := Rect.unit ![0, 1, 0, 0, 0] ![1, 1, 1, 96, 96] inb_S1x2x2x96x96_S1x1x1x96x96_0_1_0_0_0
/-- The slab of the result block at the second half, second input. -/
abbrev slab11 : Rect S1x2x2x96x96 := Rect.unit ![0, 1, 1, 0, 0] ![1, 1, 1, 96, 96] inb_S1x2x2x96x96_S1x1x1x96x96_0_1_1_0_0

/-- Where the slab at half `g`, input `k` sits in the block. -/
theorem slab_emb (g k : Fin 2) (inb : ∀ a, (![0, g.val, k.val, 0, 0] : Fin 5 → ℕ) a + (![1, 1, 1, 96, 96] : Fin 5 → ℕ) a ≤ S1x2x2x96x96.size a)
    (x : (Rect.unit (s := S1x2x2x96x96) ![0, g.val, k.val, 0, 0] ![1, 1, 1, 96, 96] inb).shape.Idx) :
    (Rect.unit (s := S1x2x2x96x96) ![0, g.val, k.val, 0, 0] ![1, 1, 1, 96, 96] inb).emb x = ix5 0 g k (x 3) (x 4) := by
  blk_ext

/-- The four stores of one grid point, the last first, over a block `o` read slab by slab. -/
abbrev stores (wl wh : Ideal .f32) (x1 x2 : FVec Ideal S1x96x128x128 .f32) (o : FVec Ideal S1x2x2x96x96 .f32) :
    List (View.Piece (Elt Ideal) S1x2x2x96x96 .f32) :=
  [⟨slab11, k0_pay1 wh (k0_pay9 (k0_pay7 x2)) (View.ld o slab11)⟩,
   ⟨slab10, k0_pay12 wh (k0_pay6 x1) (constant S96x96 FTy.f32 0#32) (View.ld o slab10)⟩,
   ⟨slab01, k0_pay11 wl (k0_pay7 x2) (View.ld o slab01)⟩,
   ⟨slab00, k0_pay10 wl (k0_pay6 x1) (constant S96x96 FTy.f32 0#32) (View.ld o slab00)⟩]

/-- Each of the four stores writes its slab of the block with the products added. -/
theorem pieces (wl wh : Ideal .f32) (x1 x2 : FVec Ideal S1x96x128x128 .f32) (o : FVec Ideal S1x2x2x96x96 .f32) :
    View.PiecesOf (added wl wh x1 x2 o) (stores wl wh x1 x2 o) := by
  refine ⟨fun x => ?_, fun x => ?_, fun x => ?_, fun x => ?_, trivial⟩ <;>
    pointwise [k0_pay1, k0_pay7, k0_pay9, k0_pay12, k0_pay6, k0_pay8, k0_pay10, k0_pay11, added, gram]
  · rw [show slab11.emb x = ix5 0 1 1 (x 3) (x 4) from slab_emb 1 1 _ x]; rfl
  · rw [show slab10.emb x = ix5 0 1 0 (x 3) (x 4) from slab_emb 1 0 _ x]; rfl
  · rw [show slab01.emb x = ix5 0 0 1 (x 3) (x 4) from slab_emb 0 1 _ x]; rfl
  · rw [show slab00.emb x = ix5 0 0 0 (x 3) (x 4) from slab_emb 0 0 _ x]; rfl

/-- The four slabs cover the block. -/
theorem stores_cover (wl wh : Ideal .f32) (x1 x2 : FVec Ideal S1x96x128x128 .f32) (o : FVec Ideal S1x2x2x96x96 .f32)
    (y : S1x2x2x96x96.Idx) : ∃ p ∈ stores wl wh x1 x2 o, y ∈ p.1.set :=
  View.cover_of_tiledL (stores wl wh x1 x2 o) S1x1x1x96x96.size (by sl_kernel_rfl) y

/-- Whatever was stored before, the four stores of a point leave the block with the products added. -/
theorem canon_stores (wl wh : Ideal .f32) (x1 x2 : FVec Ideal S1x96x128x128 .f32) (o : FVec Ideal S1x2x2x96x96 .f32)
    (L : List (View.Piece (Elt Ideal) S1x2x2x96x96 .f32)) :
    View.canon (stores wl wh x1 x2 o ++ L) = added wl wh x1 x2 o :=
  funext fun y => View.canon_append_of_piecesOf _ L _ (pieces wl wh x1 x2 o) y (stores_cover wl wh x1 x2 o y)

/-- The label stored at place `n`, as the kernel reads it. -/
theorem label_at (lab : Vec Ideal S8 .i32) (n : ℕ) (inb : ∀ a, (![n] : Fin 1 → ℕ) a + (![1] : Fin 1 → ℕ) a ≤ S8.size a)
    (j : (Rect.unit (s := S8) ![n] ![1] inb).shape.Idx) :
    View.ld lab (Rect.unit (s := S8) ![n] ![1] inb) j = lab (ix1 ⟨n, inb 0⟩) := by
  refine congrArg lab (funext fun a => Fin.ext ?_)
  obtain rfl : a = 0 := Subsingleton.elim _ _
  have hj : (j 0).val < 1 := (j 0).isLt
  refine (Rect.idx_unit_val _ _ _ _ _).trans ?_
  show n + (j 0).val = n
  omega

/-- The weight of batch element `b` in the first half of the result, as the kernel computes it from the labels. -/
def lowW (lab : Vec Ideal S8 .i32) (b : Fin 8) : Ideal .f32 :=
  k0_pay4 (F := Ideal) (lab (ix1 0)) (lab (ix1 1)) (lab (ix1 2)) (lab (ix1 3)) (lab (ix1 4)) (lab (ix1 5)) (lab (ix1 6))
    (lab (ix1 7)) (lab (ix1 b))

/-- The weight of batch element `b` in the second half. -/
def highW (lab : Vec Ideal S8 .i32) (b : Fin 8) : Ideal .f32 :=
  k0_pay5 (F := Ideal) (lab (ix1 0)) (lab (ix1 1)) (lab (ix1 2)) (lab (ix1 3)) (lab (ix1 4)) (lab (ix1 5)) (lab (ix1 6))
    (lab (ix1 7)) (lab (ix1 b))

variable (m : (ℓ : Loc nD τ sig) → Buf (Elt Ideal) ℓ)

/-- Grid point `t` handles batch element `t`. -/
theorem off1_eq : ∀ t : Fin cfg0.N, k0_off1 (grid0.coords t) = ![t.val] :=
  (by decide +kernel : ∀ t : Fin grid0.N, _)

/-- The grid has eight points. -/
theorem lt8 (t : Fin cfg0.N) : t.val < 8 := lt_of_lt_of_eq t.isLt N_0

/-- The label of the batch element at hand. -/
theorem label_own (lab : Vec Ideal S8 .i32) (t : Fin cfg0.N) (inb)
    (j : (Rect.unit (s := S8) (k0_off1 (grid0.coords t)) ![1] inb).shape.Idx) :
    View.ld lab (Rect.unit (s := S8) (k0_off1 (grid0.coords t)) ![1] inb) j = lab (ix1 ⟨t.val, lt8 t⟩) := by
  revert inb
  rw [off1_eq t]
  intro inb j
  exact label_at lab t.val inb j

/-- A middle point of a run adds its products to what the point before left. -/
theorem step_mid (c : Dev nD) (t : Fin cfg0.N) (h0 : ¬ t.val % 4 = 0) (h1 : ¬ t.val % 4 = 3) :
    outsAt0 m c t.val t.isLt
      = added (lowW (iblk m c 0 t) ⟨t.val, lt8 t⟩) (highW (iblk m c 0 t) ⟨t.val, lt8 t⟩) (iblk m c 1 t) (iblk m c 2 t)
          (outsAt0 m c (t.val - 1) (Nat.lt_of_le_of_lt (Nat.sub_le _ _) t.isLt)) := by
  have key : ∀ (x0 : Vec Ideal S8 .i32) (x1 x2 : Vec Ideal S1x96x128x128 .f32) (xo : Vec Ideal S1x2x2x96x96 .f32),
      out0_B_3 c (grid0.coords t) (ms0_0 t) (hs0_0 t) (ms0_1 t) (hs0_1 t) (ms0_2 t) (hs0_2 t) (ms0_3 t) (hs0_3 t)
        (fun h => h0 ((hcond0_0 t).mp h)) (fun h => h1 ((hcond0_1 t).mp h)) x0 x1 x2 xo
        = added (lowW x0 ⟨t.val, lt8 t⟩) (highW x0 ⟨t.val, lt8 t⟩) x1 x2 xo := by
    intro x0 x1 x2 xo
    frame_out
    rw [label_own x0 t]
    simp only [label_at x0]
    exact canon_stores (lowW x0 ⟨t.val, lt8 t⟩) (highW x0 ⟨t.val, lt8 t⟩) x1 x2 xo []
  rw [outsAt0_B m c t h0 h1]
  exact key _ _ _ _

/-- The first point of a run adds its products to a block of zeros. -/
theorem step_first (c : Dev nD) (t : Fin cfg0.N) (h0 : t.val % 4 = 0) (h1 : ¬ t.val % 4 = 3) :
    outsAt0 m c t.val t.isLt
      = added (lowW (iblk m c 0 t) ⟨t.val, lt8 t⟩) (highW (iblk m c 0 t) ⟨t.val, lt8 t⟩) (iblk m c 1 t) (iblk m c 2 t)
          (k0_pay3 (F := Ideal)) := by
  have key : ∀ (x0 : Vec Ideal S8 .i32) (x1 x2 : Vec Ideal S1x96x128x128 .f32),
      out0_A_3 c (grid0.coords t) (ms0_0 t) (hs0_0 t) (ms0_1 t) (hs0_1 t) (ms0_2 t) (hs0_2 t) (ms0_3 t) (hs0_3 t)
        ((hcond0_0 t).mpr h0) (fun h => h1 ((hcond0_1 t).mp h)) x0 x1 x2
        = added (lowW x0 ⟨t.val, lt8 t⟩) (highW x0 ⟨t.val, lt8 t⟩) x1 x2 (k0_pay3 (F := Ideal)) := by
    intro x0 x1 x2
    frame_open
    simp (disch := decide) only [↓ View.readCov_skip, ↓ View.readCov_cons_toLoadRect, ↓ View.readCov_fill]
    frame_out
    rw [label_own x0 t]
    simp only [label_at x0]
    exact canon_stores (lowW x0 ⟨t.val, lt8 t⟩) (highW x0 ⟨t.val, lt8 t⟩) x1 x2 (k0_pay3 (F := Ideal)) [_]
  rw [outsAt0_A m c t h0 h1]
  exact key _ _ _

/-- The last point of a run adds its products, then multiplies the block by the mask of the upper triangle. -/
theorem step_last (c : Dev nD) (t : Fin cfg0.N) (h0 : ¬ t.val % 4 = 0) (h1 : t.val % 4 = 3) :
    outsAt0 m c t.val t.isLt
      = k0_pay2 (F := Ideal) (added (lowW (iblk m c 0 t) ⟨t.val, lt8 t⟩) (highW (iblk m c 0 t) ⟨t.val, lt8 t⟩)
          (iblk m c 1 t) (iblk m c 2 t) (outsAt0 m c (t.val - 1) (Nat.lt_of_le_of_lt (Nat.sub_le _ _) t.isLt))) := by
  have key : ∀ (x0 : Vec Ideal S8 .i32) (x1 x2 : Vec Ideal S1x96x128x128 .f32) (xo : Vec Ideal S1x2x2x96x96 .f32),
      out0_C_3 c (grid0.coords t) (ms0_0 t) (hs0_0 t) (ms0_1 t) (hs0_1 t) (ms0_2 t) (hs0_2 t) (ms0_3 t) (hs0_3 t)
        (fun h => h0 ((hcond0_0 t).mp h)) ((hcond0_1 t).mpr h1) x0 x1 x2 xo
        = k0_pay2 (F := Ideal) (added (lowW x0 ⟨t.val, lt8 t⟩) (highW x0 ⟨t.val, lt8 t⟩) x1 x2 xo) := by
    intro x0 x1 x2 xo
    frame_open
    simp (disch := decide) only [↓ View.readCov_skip, ↓ View.readCov_cons_toLoadRect, ↓ View.readCov_fill]
    frame_out
    rw [label_own x0 t, View.readCov_eq_canon']
    simp only [label_at x0]
    refine congrArg (k0_pay2 (F := Ideal)) (Eq.trans ?_ (canon_stores (lowW x0 ⟨t.val, lt8 t⟩) (highW x0 ⟨t.val, lt8 t⟩) x1 x2 xo []))
    exact View.ld_unit_zero (by decide) inb_S1x2x2x96x96_S1x2x2x96x96_0_0_0_0_0 _
  rw [outsAt0_C m c t h0 h1]
  exact key _ _ _ _

/-- The labels block is the labels array. -/
theorem iblk_labels (c : Dev nD) (t : Fin cfg0.N) : iblk m c 0 t = m ((c : Thread nD τ).loc main_arg2) := by
  have idx : ∀ t : Fin cfg0.N, win0_0.index t = ![0] := (by decide +kernel : ∀ t : Fin grid0.N, _)
  blk_ext! [iblk, V, idx t]

end Cert.KernelIdeal.Cov

end
-- ==== Proof.Array.lean ====
/- The array the kernel leaves: for each half of the batch, the masked sum of the shares of its four elements. -/
module

public import proofs.«01_k».proof.Proof.Block

@[expose] public section

set_option maxRecDepth 16384

noncomputable section

namespace Cert.KernelIdeal.Cov

open Idealize.ShloMosaic Idealize.ShloMosaic.TcCoe Idealize.SL.Sem
open Cert.KernelIdeal Cert.KernelIdeal.Gen

/-- One batch element of an input array, as a block. -/
def batch (X : FVec Ideal S8x96x128x128 .f32) (b : Fin 8) : FVec Ideal S1x96x128x128 .f32 :=
  fun j => X (ix4 b (j 1) (j 2) (j 3))

/-- The share of batch element `b` in the result at half `g`, input `k`, channels `p` and `q`, before the mask. -/
def share (lab : Vec Ideal S8 .i32) (X0 X1 : FVec Ideal S8x96x128x128 .f32) (g k : Fin 2) (p q : Fin 96) (b : Fin 8) : EReal :=
  (if g.val = 0 then lowW lab b else highW lab b) * (if k.val = 0 then gram (batch X0 b) p q else gram (batch X1 b) p q)

/-- The mask of the strict upper triangle. -/
def upper (p q : Fin 96) : EReal := if p.val < q.val then 1 else 0

/-- The signed comparison of two channel numbers, as words. -/
theorem channel_lt : ∀ p q : Fin 96, IntOp.cmpi .slt (BitVec.ofNat 32 p.val) (BitVec.ofNat 32 q.val)
    = if p.val < q.val then 1#1 else 0#1 := by decide +kernel

/-- The comparison converted to a float is the mask. -/
theorem mask_word (p q : Fin 96) :
    (FloatOps.sitofp .f32 (BitVec.setWidth 32 (IntOp.cmpi .slt (BitVec.ofNat 32 p.val) (BitVec.ofNat 32 q.val))) : Ideal .f32)
      = upper p q := by
  rw [channel_lt, upper]
  split
  · show (((1#32).toInt : ℝ) : EReal) = 1
    simp
  · show (((0#32).toInt : ℝ) : EReal) = 0
    simp

/-- A block of the result multiplied by the mask, at an index. -/
theorem masked_at (v : FVec Ideal S1x2x2x96x96 .f32) (y : S1x2x2x96x96.Idx) :
    k0_pay2 (F := Ideal) v y = v y * upper (y 3) (y 4) := by
  pointwise [k0_pay2]
  exact congrArg (v y * ·) (mask_word (y 3) (y 4))

/-- The zero block, at an index. -/
theorem zeros_at (y : S1x2x2x96x96.Idx) : k0_pay3 (F := Ideal) y = 0 := by
  pointwise [k0_pay3]

/-- The partial sums the kernel writes: at batch half `i 0`, the four shares of that half, masked. -/
def partials (lab : Vec Ideal S8 .i32) (X0 X1 : FVec Ideal S8x96x128x128 .f32) : FVec Ideal S2x2x2x96x96 .f32 := fun i =>
  (∑ j : Fin 4, share lab X0 X1 (i 1) (i 2) (i 3) (i 4) ⟨4 * (i 0).val + j.val, by have : (i 0).val < 2 := (i 0).isLt; omega⟩)
    * upper (i 3) (i 4)

variable (m : (ℓ : Loc nD τ sig) → Buf (Elt Ideal) ℓ)

/-- Which block each window is at on grid point `t`: batch element `t` of the inputs, batch half `t / 4` of the result. -/
theorem idx : ∀ t : Fin cfg0.N, win0_1.index t = ![t.val, 0, 0, 0] ∧ win0_2.index t = ![t.val, 0, 0, 0]
    ∧ win0_3.index t = ![t.val / 4, 0, 0, 0, 0] :=
  (by decide +kernel : ∀ t : Fin grid0.N, _)

/-- The first input's block at point `t` is batch element `t`; -/
theorem iblk_first (c : Dev nD) (t : Fin cfg0.N) :
    iblk m c 1 t = batch (m ((c : Thread nD τ).loc main_arg0)) ⟨t.val, lt8 t⟩ := by
  funext j
  unfold batch
  blk_ext [iblk, V, idx t]

/-- likewise the second input's. -/
theorem iblk_second (c : Dev nD) (t : Fin cfg0.N) :
    iblk m c 2 t = batch (m ((c : Thread nD τ).loc main_arg1)) ⟨t.val, lt8 t⟩ := by
  funext j
  unfold batch
  blk_ext [iblk, V, idx t]

/-- The share of the point `n` in the output block at `y`. -/
abbrev pointShare (c : Dev nD) (y : S1x2x2x96x96.Idx) (b : Fin 8) : EReal :=
  share (m ((c : Thread nD τ).loc main_arg2)) (m ((c : Thread nD τ).loc main_arg0)) (m ((c : Thread nD τ).loc main_arg1))
    (y 1) (y 2) (y 3) (y 4) b

/-- What is added at point `t`, at an index. -/
theorem added_at (c : Dev nD) (t : Fin cfg0.N) (o : FVec Ideal S1x2x2x96x96 .f32) (y : S1x2x2x96x96.Idx) :
    added (lowW (iblk m c 0 t) ⟨t.val, lt8 t⟩) (highW (iblk m c 0 t) ⟨t.val, lt8 t⟩) (iblk m c 1 t) (iblk m c 2 t) o y
      = o y + pointShare m c y ⟨t.val, lt8 t⟩ := by
  rw [iblk_labels, iblk_first, iblk_second]
  rfl

/-- A middle point of a run, at an index. -/
theorem mid_at (c : Dev nD) (n : ℕ) (hn : n < cfg0.N) (h0 : ¬ n % 4 = 0) (h1 : ¬ n % 4 = 3) (y : S1x2x2x96x96.Idx) :
    outsAt0 m c n hn y = outsAt0 m c (n - 1) (Nat.lt_of_le_of_lt (Nat.sub_le _ _) hn) y + pointShare m c y ⟨n, lt8 ⟨n, hn⟩⟩ :=
  (congrFun (step_mid m c ⟨n, hn⟩ h0 h1) y).trans (added_at m c ⟨n, hn⟩ _ y)

/-- The first point of a run, at an index. -/
theorem first_at (c : Dev nD) (n : ℕ) (hn : n < cfg0.N) (h0 : n % 4 = 0) (y : S1x2x2x96x96.Idx) :
    outsAt0 m c n hn y = pointShare m c y ⟨n, lt8 ⟨n, hn⟩⟩ := by
  refine (congrFun (step_first m c ⟨n, hn⟩ h0 (by dsimp only; omega)) y).trans ((added_at m c ⟨n, hn⟩ _ y).trans ?_)
  rw [zeros_at, zero_add]

/-- The last point of a run, at an index. -/
theorem last_at (c : Dev nD) (n : ℕ) (hn : n < cfg0.N) (h1 : n % 4 = 3) (y : S1x2x2x96x96.Idx) :
    outsAt0 m c n hn y = (outsAt0 m c (n - 1) (Nat.lt_of_le_of_lt (Nat.sub_le _ _) hn) y + pointShare m c y ⟨n, lt8 ⟨n, hn⟩⟩)
      * upper (y 3) (y 4) := by
  refine (congrFun (step_last m c ⟨n, hn⟩ (by dsimp only; omega) h1) y).trans ((masked_at _ y).trans ?_)
  rw [added_at m c ⟨n, hn⟩ _ y]

/-- What the last point of the run `q` leaves: the sum of the run's four shares, masked. -/
theorem run_at (c : Dev nD) (q : ℕ) (hq : 4 * q + 3 < cfg0.N) (y : S1x2x2x96x96.Idx) :
    outsAt0 m c (4 * q + 3) hq y
      = (∑ j : Fin 4, pointShare m c y ⟨4 * q + j.val, by have := lt8 ⟨_, hq⟩; dsimp only at this; omega⟩) * upper (y 3) (y 4) := by
  have s2 := mid_at m c (4 * q + 2) (by omega) (by omega) (by omega) y
  have s1 := mid_at m c (4 * q + 1) (by omega) (by omega) (by omega) y
  rw [last_at m c _ hq (by omega) y]
  refine congrArg (· * upper (y 3) (y 4)) ?_
  rw [Fin.sum_univ_four]
  refine congrArg (· + _) (s2.trans (congrArg (· + _) (s1.trans (congrArg (· + _) ?_))))
  exact first_at m c (4 * q) (by omega) (by omega) y

/-- The kernel's array after the run. -/
theorem final (c : Dev nD) : (dats m 0 c).arrAt 3 (cfgs 0).N
    = partials (m ((c : Thread nD τ).loc main_arg2)) (m ((c : Thread nD τ).loc main_arg0)) (m ((c : Thread nD τ).loc main_arg1)) := by
  refine (dats m 0 c).arrAt_eq_of_covers 3 _ (by decide +kernel) fun t hf y => ?_
  have ht := (flush0_3 t).mp hf
  blk_simp [idx t]
  rw [after0_3]
  have e : ∀ y : S1x2x2x96x96.Idx, (win0_3.blk t).view.emb y
      = (ix5 ⟨t.val / 4, by have := lt8 t; omega⟩ (y 1) (y 2) (y 3) (y 4) : S2x2x2x96x96.Idx) := fun y => by
    blk_ext [idx t]
  have ht' : t.val = 4 * (t.val / 4) + 3 := by omega
  have hq : 4 * (t.val / 4) + 3 < cfg0.N := ht' ▸ t.isLt
  have h := run_at m c (t.val / 4) hq y
  have same : ∀ (n : ℕ) (hn : n < cfg0.N), t.val = n → outsAt0 m c t.val t.isLt = outsAt0 m c n hn := by
    rintro n hn rfl
    rfl
  rw [same _ hq ht']
  refine h.trans ?_
  rw [e y]
  rfl

end Cert.KernelIdeal.Cov

end
-- ==== Proof.Weights.lean ====
/- The kernel's weight of a batch element against the reference's, and one term of the reference's sum against one
   share of the kernel's. -/
module

public import proofs.«01_k».proof.Proof.Algebra
public import proofs.«01_k».proof.Proof.Array

@[expose] public section

set_option maxRecDepth 16384

noncomputable section

namespace Cert.Cov

open Idealize.ShloMosaic
open Cert.KernelIdeal Cert.KernelIdeal.Gen Cert.KernelIdeal.Cov

/-- One bit converted to a float is zero or one. -/
theorem bit_cases (w : BitVec 1) : (FloatOps.uitofp .f32 w : Ideal .f32) = 0 ∨ (FloatOps.uitofp .f32 w : Ideal .f32) = 1 := by
  have h : ∀ w : BitVec 1, w.toNat = 0 ∨ w.toNat = 1 := by decide
  show ((w.toNat : ℝ) : EReal) = 0 ∨ ((w.toNat : ℝ) : EReal) = 1
  rcases h w with e | e <;> simp [e]

/-- Widening a bit to a word and converting it as a signed number gives the same float as converting the bit. -/
theorem widened_bit (w : BitVec 1) :
    (FloatOps.sitofp .f32 (BitVec.setWidth 32 w) : Ideal .f32) = FloatOps.uitofp .f32 w := by
  have h : ∀ w : BitVec 1, (BitVec.setWidth 32 w).toInt = (w.toNat : ℤ) := by decide
  show (((BitVec.setWidth 32 w).toInt : ℝ) : EReal) = ((w.toNat : ℝ) : EReal)
  rw [h]
  norm_num

/-- One where the label of batch element `b` is the least of the eight, zero elsewhere. -/
def isLeast (lab : Vec Ideal S8 .i32) (b : Fin 8) : Ideal .f32 :=
  FloatOps.uitofp .f32 (IntOp.cmpi .eq (lab (ix1 b)) (Finset.fold IntOp.minsi 2147483647#32 (fun k => lab (ix1 k)) Finset.univ))

/-- The kernel's first weight is the indicator times the scale. -/
theorem lowW_eq (lab : Vec Ideal S8 .i32) (b : Fin 8) : lowW lab b = isLeast lab b * ((16383⁻¹ : ℝ) : EReal) := by
  rw [isLeast, fold_minsi, ← widened_bit]
  rfl

/-- The second is the scale minus the first. -/
theorem highW_eq (lab : Vec Ideal S8 .i32) (b : Fin 8) :
    highW lab b = ((16383⁻¹ : ℝ) : EReal) - isLeast lab b * ((16383⁻¹ : ℝ) : EReal) := by
  rw [← lowW_eq]
  rfl

/-- A weight times a scaled number: the scale may be multiplied into the weight first. -/
theorem weigh_low (d x : EReal) (s : ℝ) : d * (x * s + 0) = d * s * x := by
  rw [add_zero, mul_comm x, mul_assoc]

/-- For the complement of an indicator the scaled weight is the scale minus the scaled indicator. -/
theorem weigh_high (d x : EReal) (s : ℝ) (hd : d = 0 ∨ d = 1) : (1 - d) * (x * s + 0) = (s - d * s) * x := by
  rw [add_zero, mul_comm x]
  rcases hd with rfl | rfl
  · simp
  · have e : ∀ r : ℝ, (r : EReal) - r = 0 := fun r => by rw [← EReal.coe_sub, sub_self, EReal.coe_zero]
    rw [one_mul, e s, show (1 : EReal) - 1 = 0 from e 1, zero_mul, zero_mul]

/-- The reference's mask of the lower triangle with the diagonal, as a word. -/
theorem channel_ge : ∀ p q : Fin 96, IntOp.cmpi .sge (IntOp.addi (BitVec.ofNat 32 p.val) 0#32) (BitVec.ofNat 32 q.val)
    = if p.val < q.val then 0#1 else 1#1 := by decide +kernel

/-- The reference's identity matrix is zero above the diagonal. -/
theorem channel_ne : ∀ p q : Fin 96, p.val < q.val →
    IntOp.cmpi .eq (IntOp.addi (BitVec.ofNat 32 p.val) 0#32) (BitVec.ofNat 32 q.val) = 0#1 := by decide +kernel

/-- One term of the reference's sum with weight `w`: masked, it is the scaled product times the weight. -/
theorem term_eq (p q : Fin 96) (w x e y : EReal) (h : w * (x * ((16383⁻¹ : ℝ) : EReal) + 0) = y) :
    Scalar.select (IntOp.cmpi .sge (IntOp.addi (BitVec.ofNat 32 p.val) 0#32) (BitVec.ofNat 32 q.val)) (0 : EReal)
      (w * (Ideal.div x (Ideal.ofBits .f32 0x467FFC00#32)
        + e * (FloatOps.uitofp .f32 (IntOp.cmpi .eq (IntOp.addi (BitVec.ofNat 32 p.val) 0#32) (BitVec.ofNat 32 q.val)) : Ideal .f32)))
      = y * upper p q := by
  rw [channel_ge, upper]
  split
  · next hpq =>
    rw [channel_ne p q hpq, div_16383, mul_one]
    refine Eq.trans ?_ h
    show w * (_ + e * (((0#1).toNat : ℝ) : EReal)) = _
    simp
  · rw [mul_zero]
    rfl

end Cert.Cov

end
-- ==== Proof.Reference.lean ====
/- The reference's result at an index, in the words of the kernel's: the eight shares, each masked. -/
module

public import proofs.«01_k».proof.Proof.Gen.ReferenceIdeal.Run
public import proofs.«01_k».proof.Proof.Weights
public import Idealize.ShloMosaic.Lib.Pointwise
public import Idealize.ShloMosaic.Lib.Tactic.CleanTypes

@[expose] public section

set_option maxRecDepth 16384

noncomputable section

namespace Cert.ReferenceIdeal.Cov

open Idealize.ShloMosaic Idealize.ShloMosaic.TcCoe Idealize.SL.Sem
open Cert.ReferenceIdeal Cert.ReferenceIdeal.Gen Cert.Cov
open Cert.KernelIdeal.Cov (batch gram share upper)

variable (m : (ℓ : Loc nD τ sig) → Buf (Elt Ideal) ℓ)

/-- The inner product of two channels of batch element `b`, of the first input where `k` is zero and else of the
    second, as the reference picks it position by position. -/
theorem gram_eq (X0 X1 : FVec Ideal S8x96x128x128 .f32) (k : Fin 2) (b : Fin 8) (p q : Fin 96) :
    (∑ z : Fin 16384,
        (if k.val < 1 then X0 (ix4 b p ⟨z.val / 128, by omega⟩ ⟨z.val % 128, by omega⟩)
          else X1 (ix4 b p ⟨z.val / 128, by omega⟩ ⟨z.val % 128, by omega⟩))
        * (if k.val < 1 then X0 (ix4 b q ⟨z.val / 128, by omega⟩ ⟨z.val % 128, by omega⟩)
          else X1 (ix4 b q ⟨z.val / 128, by omega⟩ ⟨z.val % 128, by omega⟩)))
      = if k.val = 0 then gram (batch X0 b) p q else gram (batch X1 b) p q := by
  by_cases h : k.val = 0
  · simp only [h, Nat.zero_lt_one, if_true]
    rfl
  · simp only [h, show ¬ k.val < 1 by omega, if_false]
    rfl

/-- The reference's result: the sum over the batch of the masked shares. -/
theorem result_at (c : Dev nD) (g k : Fin 2) (p q : Fin 96) :
    Value.res_main_v34 m c (ix4 g k p q)
      = ∑ b : Fin 8, share (m ((c : Thread nD τ).loc main_arg2)) (m ((c : Thread nD τ).loc main_arg0))
          (m ((c : Thread nD τ).loc main_arg1)) g k p q b * upper p q := by
  unfold Value.res_main_v34
  clean_types
  pointwise
  split
  · next hg =>
    refine Finset.sum_congr rfl fun b _ => ?_
    refine term_eq p q _ _ _ _ ?_
    refine (weigh_low _ _ _).trans ?_
    rw [share, if_pos (by omega), lowW_eq, ← gram_eq]
    simp only [dite_eq_ite]
    rfl
  · next hg =>
    refine Finset.sum_congr rfl fun b _ => ?_
    refine term_eq p q _ _ _ _ ?_
    refine (weigh_high _ _ _ (bit_cases _)).trans ?_
    rw [share, if_neg (by omega), highW_eq, ← gram_eq]
    simp only [dite_eq_ite]
    rfl

end Cert.ReferenceIdeal.Cov

end
-- ==== Proof.Tail.lean ====
/- The host lines after the kernel, which add the two slabs of the kernel's array. -/
module

public import proofs.«01_k».proof.Proof.Gen.KernelIdeal.Frame
public import Idealize.ShloMosaic.Lib.Pipeline.ValueKit

@[expose] public section

set_option maxRecDepth 16384

noncomputable section

namespace Cert.KernelIdeal.Cov

open Idealize.ShloMosaic Idealize.ShloMosaic.TcCoe Idealize.SL.Sem
open Cert.KernelIdeal Cert.KernelIdeal.Gen

variable (m : (ℓ : Loc nD τ sig) → Buf (Elt Ideal) ℓ)

/-- The sum of the two slabs of a partials array: what the host lines after the kernel compute. -/
def slabSum (A : FVec Ideal S2x2x2x96x96 .f32) : FVec Ideal S2x2x96x96 .f32 :=
  addf
    (shapeCast S2x2x96x96 (extractStridedSlice S1x2x2x96x96 ![0, 0, 0, 0, 0] A slices_S2x2x2x96x96_S1x2x2x96x96_0_0_0_0_0) shapeCasts_S1x2x2x96x96_S2x2x96x96)
    (shapeCast S2x2x96x96 (extractStridedSlice S1x2x2x96x96 ![1, 0, 0, 0, 0] A slices_S2x2x2x96x96_S1x2x2x96x96_1_0_0_0_0) shapeCasts_S1x2x2x96x96_S2x2x96x96)

/-- After the kernel and the host lines, the result buffer holds the sum of the two slabs of the kernel's array. -/
theorem tail_eq (c : Dev nD) :
    Pipeline.afterTail₀ cfgs (dats m) 0 (V0 m) [hostOps1] c main_v5
      = slabSum ((dats m 0 c).arrAt 3 (cfgs 0).N) := by
  unfold Pipeline.afterTail₀
  simp only [List.flatten_cons, List.flatten_nil, List.append_nil, hostOps1]
  after_results_simp
  have h := Pipeline.withArrays_arr (cfgs 0).spec (by decide) c (V0 m c) (fun w => (dats m 0 c).arrAt w (cfgs 0).N) 3
  have h' : Pipeline.withArrays (cfgs 0).spec c (V0 m c) (fun w => (dats m 0 c).arrAt w (cfgs 0).N) (Proc.tc.devRef main_v0)
      = (dats m 0 c).arrAt 3 (cfgs 0).N := h
  rw [h']
  rfl

end Cert.KernelIdeal.Cov

end
-- ==== Proof.Result.lean ====
/- The kernel's result at an index: the sum over the batch of the masked shares. -/
module

public import proofs.«01_k».proof.Proof.Tail
public import proofs.«01_k».proof.Proof.Array

@[expose] public section

set_option maxRecDepth 16384

noncomputable section

namespace Cert.KernelIdeal.Cov

open Idealize.ShloMosaic Idealize.ShloMosaic.TcCoe Idealize.SL.Sem
open Cert.KernelIdeal Cert.KernelIdeal.Gen

/-- Masking a sum is masking its terms. -/
theorem sum_upper {n : ℕ} (f : Fin n → EReal) (p q : Fin 96) : (∑ j, f j) * upper p q = ∑ j, f j * upper p q := by
  rw [upper]
  split
  · simp only [mul_one]
  · simp only [mul_zero, Finset.sum_const_zero]

/-- The kernel's result at an index: its two partial sums together are the sum over the batch of the masked shares. -/
theorem slabSum_partials_at (lab : Vec Ideal S8 .i32) (X0 X1 : FVec Ideal S8x96x128x128 .f32) (g k : Fin 2) (p q : Fin 96) :
    slabSum (partials lab X0 X1) (ix4 g k p q) = ∑ b : Fin 8, share lab X0 X1 g k p q b * upper p q := by
  have h : slabSum (partials lab X0 X1) (ix4 g k p q)
      = partials lab X0 X1 (ix5 0 g k p q) + partials lab X0 X1 (ix5 1 g k p q) := by
    pointwise [slabSum]
  rw [h, Fin.sum_univ_add (a := 4) (b := 4), ← sum_upper, ← sum_upper]
  refine congrArg₂ (· + ·) (congrArg (· * _) (Finset.sum_congr rfl fun j _ => ?_)) rfl
  refine congrArg _ (Fin.ext ?_)
  show 4 * 0 + j.val = j.val
  omega

end Cert.KernelIdeal.Cov

end
-- ==== Proof.lean ====
/- Assembles the claims about the covariance kernel: the three frames, the named constant, and the equation of kernel
   and reference over the extended reals. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Reference
public import proofs.«01_k».proof.Proof.Result

@[expose] public section

noncomputable section

namespace Cert.Proof

open Idealize.ShloMosaic Idealize.SL.Sem Cert.Kernel

/-- Every run of the kernel ends without fault, with its arguments unchanged and every semaphore at zero. -/
theorem frame_kernel : Cert.quiescent_Kernel := fun m ρ _ => Cert.Kernel.Gen.frame m ρ

/-- So does every run of the idealized kernel. -/
theorem frame_kernelIdeal : Cert.quiescent_KernelIdeal := fun m ρ _ => Cert.KernelIdeal.Gen.frame m ρ

/-- So does every run of the reference, which has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one constant the kernel names: the float it prints stands for the inverse of 16383. -/
theorem preserves : Cert.preserves_Kernel_KernelIdeal :=
  IdealRules.named_const.statement Cert.KernelIdeal.κ "scale" .f32 0x38800200#32 ((16383⁻¹ : ℝ) : EReal) rfl

/-- Over the extended reals the kernel's result is the reference's at every index: both are the sum over the batch of
    the masked shares. -/
theorem algebraic : Cert.algebraic_KernelIdeal_ReferenceIdeal := by
  pair_intro
  · run_from Cert.KernelIdeal.Gen.run_main m g
  · run_from Cert.ReferenceIdeal.Value.run (F := Ideal) m' g'
    obtain ⟨h0, h1, h2⟩ := hagree c
    rw [Cert.KernelIdeal.Cov.tail_eq, Cert.KernelIdeal.Cov.final]
    funext i
    rw [eq_ix4 i]
    refine (Cert.ReferenceIdeal.Cov.result_at m' c _ _ _ _).trans ?_
    rw [h0, h1, h2]
    exact (Cert.KernelIdeal.Cov.slabSum_partials_at _ _ _ _ _ _ _).symm

/-- All the claims together. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
